-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S16384x50 : Shape := ⟨2, ![16384, 50]⟩
abbrev S16384 : Shape := ⟨1, ![16384]⟩
abbrev S16384x200 : Shape := ⟨2, ![16384, 200]⟩
abbrev S20x64 : Shape := ⟨2, ![20, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S16384x50 : S_.BroadcastsInDim S16384x50 (![] : Fin 0 → Fin S16384x50.rank)
  bcast_S_S16384 : S_.BroadcastsInDim S16384 (![] : Fin 0 → Fin S16384.rank)
  bcast_S_S16384x200 : S_.BroadcastsInDim S16384x200 (![] : Fin 0 → Fin S16384x200.rank)
  bcast_S_S20x64 : S_.BroadcastsInDim S20x64 (![] : Fin 0 → Fin S20x64.rank)
  bcast_S_S128x128 : S_.BroadcastsInDim S128x128 (![] : Fin 0 → Fin S128x128.rank)

variable [Facts]

def fn_part1 {F : FTy → Type} [FloatOps F] (main_arg5 : FVec F S128x128 .f32) (main_v4 : IVec S16384x50 1) (main_v6 : IVec S16384 1) (main_v11 : IVec S16384x200 1) (main_v13 : IVec S16384 1) (main_v16 : IVec S20x64 1) : IVec S16384x50 1 × IVec S16384 1 × IVec S16384x200 1 × IVec S16384 1 × IVec S20x64 1 × IVec S128x128 1 :=
  let main_v17 : FVec F S128x128 .f32 := Host.absf main_arg5
  let main_cst_5 : FVec F S_ .f32 := constant S_ .f32 0x7F800000#32
  let main_v18 : FVec F S128x128 .f32 := broadcastInDim S128x128 ![] bcast_S_S128x128 main_cst_5
  let main_v19 : IVec S128x128 1 := cmpf .olt main_v17 main_v18
  (main_v4, main_v6, main_v11, main_v13, main_v16, main_v19)

def fn {F : FTy → Type} [FloatOps F] (main_arg0 : IVec S16384x50 32) (main_arg1 : FVec F S16384 .f32) (main_arg2 : IVec S16384x200 32) (main_arg3 : FVec F S16384 .f32) (main_arg4 : FVec F S20x64 .f32) (main_arg5 : FVec F S128x128 .f32) (main_arg6 : FVec F S128 .f32) (main_arg7 : FVec F S1x128 .f32) (main_arg8 : FVec F S1 .f32) : IVec S16384x50 1 × IVec S16384 1 × IVec S16384x200 1 × IVec S16384 1 × IVec S20x64 1 × IVec S128x128 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 20#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_cst : FVec F S_ .f32 := constant S_ .f32 0x00000000#32
  let main_v5 : FVec F S16384 .f32 := broadcastInDim S16384 ![] bcast_S_S16384 main_cst
  let main_v6 : IVec S16384 1 := cmpf .une main_arg1 main_v5
  let main_c_1 : IVec S_ 32 := constantI S_ 32 0#32
  let main_v7 : IVec S16384x200 32 := broadcastInDim S16384x200 ![] bcast_S_S16384x200 main_c_1
  let main_v8 : IVec S16384x200 1 := cmpi .sge main_arg2 main_v7
  let main_c_2 : IVec S_ 32 := constantI S_ 32 20#32
  let main_v9 : IVec S16384x200 32 := broadcastInDim S16384x200 ![] bcast_S_S16384x200 main_c_2
  let main_v10 : IVec S16384x200 1 := cmpi .slt main_arg2 main_v9
  let main_v11 : IVec S16384x200 1 := andi main_v8 main_v10
  let main_cst_3 : FVec F S_ .f32 := constant S_ .f32 0x00000000#32
  let main_v12 : FVec F S16384 .f32 := broadcastInDim S16384 ![] bcast_S_S16384 main_cst_3
  let main_v13 : IVec S16384 1 := cmpf .une main_arg3 main_v12
  let main_v14 : FVec F S20x64 .f32 := Host.absf main_arg4
  let main_cst_4 : FVec F S_ .f32 := constant S_ .f32 0x7F800000#32
  let main_v15 : FVec F S20x64 .f32 := broadcastInDim S20x64 ![] bcast_S_S20x64 main_cst_4
  let main_v16 : IVec S20x64 1 := cmpf .olt main_v14 main_v15
  fn_part1 (F := F) main_arg5 main_v4 main_v6 main_v11 main_v13 main_v16
-- ==== Kernel.lean ====
abbrev S16384x50 : Shape := ⟨2, ![16384, 50]⟩
abbrev S16384 : Shape := ⟨1, ![16384]⟩
abbrev S16384x200 : Shape := ⟨2, ![16384, 200]⟩
abbrev S20x64 : Shape := ⟨2, ![20, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S50x16384 : Shape := ⟨2, ![50, 16384]⟩
abbrev S200x16384 : Shape := ⟨2, ![200, 16384]⟩
abbrev S50x4096 : Shape := ⟨2, ![50, 4096]⟩
abbrev S4096 : Shape := ⟨1, ![4096]⟩
abbrev S200x4096 : Shape := ⟨2, ![200, 4096]⟩
abbrev S128x64 : Shape := ⟨2, ![128, 64]⟩
abbrev S20x128 : Shape := ⟨2, ![20, 128]⟩
abbrev S14x4096 : Shape := ⟨2, ![14, 4096]⟩
abbrev S64x4096 : Shape := ⟨2, ![64, 4096]⟩
abbrev S16x4096 : Shape := ⟨2, ![16, 4096]⟩
abbrev S1x4096 : Shape := ⟨2, ![1, 4096]⟩
abbrev S20x4096 : Shape := ⟨2, ![20, 4096]⟩
abbrev S8x4096 : Shape := ⟨2, ![8, 4096]⟩
abbrev S208x4096 : Shape := ⟨2, ![208, 4096]⟩
abbrev S128x1 : Shape := ⟨2, ![128, 1]⟩
abbrev S128x4096 : Shape := ⟨2, ![128, 4096]⟩

abbrev nBuf : Space → Nat
  | .hbm => 12
  | .vmem => 15
  | .smem => 0
  | _ => 0

abbrev bufTy : (tb : Table) → Fin (tcTables nBuf tb) → BufTy
  | .hbm, ⟨0, _⟩ => ⟨S16384x50, .i32⟩
  | .hbm, ⟨1, _⟩ => ⟨S16384, .f32⟩
  | .hbm, ⟨2, _⟩ => ⟨S16384x200, .i32⟩
  | .hbm, ⟨3, _⟩ => ⟨S16384, .f32⟩
  | .hbm, ⟨4, _⟩ => ⟨S20x64, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S50x16384, .i32⟩
  | .hbm, ⟨10, _⟩ => ⟨S200x16384, .i32⟩
  | .hbm, ⟨11, _⟩ => ⟨S16384, .f32⟩
  | .local _ .vmem, ⟨0, _⟩ => ⟨S50x4096, .i32⟩
  | .local _ .vmem, ⟨1, _⟩ => ⟨S50x4096, .i32⟩
  | .local _ .vmem, ⟨2, _⟩ => ⟨S4096, .f32⟩
  | .local _ .vmem, ⟨3, _⟩ => ⟨S4096, .f32⟩
  | .local _ .vmem, ⟨4, _⟩ => ⟨S200x4096, .i32⟩
  | .local _ .vmem, ⟨5, _⟩ => ⟨S200x4096, .i32⟩
  | .local _ .vmem, ⟨6, _⟩ => ⟨S4096, .f32⟩
  | .local _ .vmem, ⟨7, _⟩ => ⟨S4096, .f32⟩
  | .local _ .vmem, ⟨8, _⟩ => ⟨S20x64, .f32⟩
  | .local _ .vmem, ⟨9, _⟩ => ⟨S128x128, .f32⟩
  | .local _ .vmem, ⟨10, _⟩ => ⟨S128, .f32⟩
  | .local _ .vmem, ⟨11, _⟩ => ⟨S1x128, .f32⟩
  | .local _ .vmem, ⟨12, _⟩ => ⟨S1, .f32⟩
  | .local _ .vmem, ⟨13, _⟩ => ⟨S4096, .f32⟩
  | .local _ .vmem, ⟨14, _⟩ => ⟨S4096, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S50x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x50 : Shape := ⟨2, ![16384, 50]⟩
abbrev S16384 : Shape := ⟨1, ![16384]⟩
abbrev S16384x200 : Shape := ⟨2, ![16384, 200]⟩
abbrev S20x64 : Shape := ⟨2, ![20, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S16384x50x1 : Shape := ⟨3, ![16384, 50, 1]⟩
abbrev S1x1x1 : Shape := ⟨3, ![1, 1, 1]⟩
abbrev S16384x50x64 : Shape := ⟨3, ![16384, 50, 64]⟩
abbrev S16384x64 : Shape := ⟨2, ![16384, 64]⟩
abbrev S16384x1 : Shape := ⟨2, ![16384, 1]⟩
abbrev S16384x200x1 : Shape := ⟨3, ![16384, 200, 1]⟩
abbrev S16384x200x64 : Shape := ⟨3, ![16384, 200, 64]⟩
abbrev S16384x128 : Shape := ⟨2, ![16384, 128]⟩
abbrev S128x1 : Shape := ⟨2, ![128, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384, .f32⟩
  | .hbm, ⟨2, _⟩ => ⟨S16384x200, .i32⟩
  | .hbm, ⟨3, _⟩ => ⟨S16384, .f32⟩
  | .hbm, ⟨4, _⟩ => ⟨S20x64, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S_, .i32⟩
  | .hbm, ⟨10, _⟩ => ⟨S16384x50, .i32⟩
  | .hbm, ⟨11, _⟩ => ⟨S16384x50, .i1⟩
  | .hbm, ⟨12, _⟩ => ⟨S_, .i32⟩
  | .hbm, ⟨13, _⟩ => ⟨S16384x50, .i32⟩
  | .hbm, ⟨14, _⟩ => ⟨S16384x50, .i32⟩
  | .hbm, ⟨15, _⟩ => ⟨S16384x50, .i32⟩
  | .hbm, ⟨16, _⟩ => ⟨S16384x50x1, .i32⟩
  | .hbm, ⟨17, _⟩ => ⟨S1, .i32⟩
  | .hbm, ⟨18, _⟩ => ⟨S_, .i32⟩
  | .hbm, ⟨19, _⟩ => ⟨S16384x50x1, .i32⟩
  | .hbm, ⟨20, _⟩ => ⟨S16384x50x1, .i1⟩
  | .hbm, ⟨21, _⟩ => ⟨S1x1x1, .i32⟩
  | .hbm, ⟨22, _⟩ => ⟨S16384x50x1, .i32⟩
  | .hbm, ⟨23, _⟩ => ⟨S16384x50x1, .i1⟩
  | .hbm, ⟨24, _⟩ => ⟨S16384x50x1, .i1⟩
  | .hbm, ⟨25, _⟩ => ⟨S_, .i1⟩
  | .hbm, ⟨26, _⟩ => ⟨S16384x50, .i1⟩
  | .hbm, ⟨27, _⟩ => ⟨S16384x50x64, .f32⟩
  | .hbm, ⟨28, _⟩ => ⟨S16384x50x64, .i1⟩
  | .hbm, ⟨29, _⟩ => ⟨S_, .f32⟩
  | .hbm, ⟨30, _⟩ => ⟨S16384x50x64, .f32⟩
  | .hbm, ⟨31, _⟩ => ⟨S16384x50x64, .f32⟩
  | .hbm, ⟨32, _⟩ => ⟨S_, .f32⟩
  | .hbm, ⟨33, _⟩ => ⟨S16384x64, .f32⟩
  | .hbm, ⟨34, _⟩ => ⟨S16384x1, .f32⟩
  | .hbm, ⟨35, _⟩ => ⟨S16384x64, .f32⟩
  | .hbm, ⟨36, _⟩ => ⟨S16384x64, .f32⟩
  | .hbm, ⟨37, _⟩ => ⟨S_, .i32⟩
  | .hbm, ⟨38, _⟩ => ⟨S16384x200, .i32⟩
  | .hbm, ⟨39, _⟩ => ⟨S16384x200, .i1⟩
  | .hbm, ⟨40, _⟩ => ⟨S_, .i32⟩
  | .hbm, ⟨41, _⟩ => ⟨S16384x200, .i32⟩
  | .hbm, ⟨42, _⟩ => ⟨S16384x200, .i32⟩
  | .hbm, ⟨43, _⟩ => ⟨S16384x200, .i32⟩
  | .hbm, ⟨44, _⟩ => ⟨S16384x200x1, .i32⟩
  | .hbm, ⟨45, _⟩ => ⟨S1, .i32⟩
  | .hbm, ⟨46, _⟩ => ⟨S_, .i32⟩
  | .hbm, ⟨47, _⟩ => ⟨S16384x200x1, .i32⟩
  | .hbm, ⟨48, _⟩ => ⟨S16384x200x1, .i1⟩
  | .hbm, ⟨49, _⟩ => ⟨S1x1x1, .i32⟩
  | .hbm, ⟨50, _⟩ => ⟨S16384x200x1, .i32⟩
  | .hbm, ⟨51, _⟩ => ⟨S16384x200x1, .i1⟩
  | .hbm, ⟨52, _⟩ => ⟨S16384x200x1, .i1⟩
  | .hbm, ⟨53, _⟩ => ⟨S_, .i1⟩
  | .hbm, ⟨54, _⟩ => ⟨S16384x200, .i1⟩
  | .hbm, ⟨55, _⟩ => ⟨S16384x200x64, .f32⟩
  | .hbm, ⟨56, _⟩ => ⟨S16384x200x64, .i1⟩
  | .hbm, ⟨57, _⟩ => ⟨S_, .f32⟩
  | .hbm, ⟨58, _⟩ => ⟨S16384x200x64, .f32⟩
  | .hbm, ⟨59, _⟩ => ⟨S16384x200x64, .f32⟩
  | .hbm, ⟨60, _⟩ => ⟨S_, .f32⟩
  | .hbm, ⟨61, _⟩ => ⟨S16384x64, .f32⟩
  | .hbm, ⟨62, _⟩ => ⟨S16384x1, .f32⟩
  | .hbm, ⟨63, _⟩ => ⟨S16384x64, .f32⟩
  | .hbm, ⟨64, _⟩ => ⟨S16384x64, .f32⟩
  | .hbm, ⟨65, _⟩ => ⟨S16384x128, .f32⟩
  | .hbm, ⟨66, _⟩ => ⟨S128x128, .f32⟩
  | .hbm, ⟨67, _⟩ => ⟨S16384x128, .f32⟩
  | .hbm, ⟨68, _⟩ => ⟨S1x128, .f32⟩
  | .hbm, ⟨69, _⟩ => ⟨S16384x128, .f32⟩
  | .hbm, ⟨70, _⟩ => ⟨S16384x128, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S128x1, .f32⟩
  | .hbm, ⟨75, _⟩ => ⟨S16384x1, .f32⟩
  | .hbm, ⟨76, _⟩ => ⟨S1x1, .f32⟩
  | .hbm, ⟨77, _⟩ => ⟨S16384x1, .f32⟩
  | .hbm, ⟨78, _⟩ => ⟨S16384x1, .f32⟩
  | .hbm, ⟨79, _⟩ => ⟨S16384, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_cst_0 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_call2_cst : Ref sig .tc := ⟨.hbm, 71, rfl⟩
abbrev main_call2_v0 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩

abbrev nD : Nat := 1
abbrev τ : Topo := Topo.v7x

variable {F : FTy → Type} [FloatOps F]
-- ==== Proof.Payload.lean ====
/-
  One grid point's block, spelt once. The body counts each of the twenty token values in turn, and the printed
  text repeats the same operations for every value. Here those operations are written once as a function of the
  token value, and the body's result is shown to be the twenty rows of that function laid one under the other.
-/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-- Which of 64 token words equal `v`, as words one and zero. -/
def hits64 (T : IVec S64x4096 16) (v : BitVec 16) : IVec S64x4096 16 :=
  select (cmpi .eq T (broadcast S64x4096 v)) (broadcast S64x4096 1#16) (broadcast S64x4096 0#16)

/-- Which of 208 token words equal `v`, as words one and zero. -/
def hits208 (U : IVec S208x4096 16) (v : BitVec 16) : IVec S208x4096 16 :=
  select (cmpi .eq U (broadcast S208x4096 v)) (broadcast S208x4096 1#16) (broadcast S208x4096 0#16)

/-- Four tiles of sixteen rows added pairwise. -/
def fold64 (M : IVec S64x4096 16) : IVec S16x4096 16 :=
  addi
    (addi (extractStridedSlice S16x4096 ![0, 0] M slices_S64x4096_o0_0_S16x4096)
      (extractStridedSlice S16x4096 ![16, 0] M slices_S64x4096_o16_0_S16x4096))
    (addi (extractStridedSlice S16x4096 ![32, 0] M slices_S64x4096_o32_0_S16x4096)
      (extractStridedSlice S16x4096 ![48, 0] M slices_S64x4096_o48_0_S16x4096))

/-- Thirteen tiles of sixteen rows added pairwise, the last tile joined at the end. -/
def fold208 (M : IVec S208x4096 16) : IVec S16x4096 16 :=
  addi
    (addi
      (addi
        (addi (extractStridedSlice S16x4096 ![0, 0] M slices_S208x4096_o0_0_S16x4096)
          (extractStridedSlice S16x4096 ![16, 0] M slices_S208x4096_o16_0_S16x4096))
        (addi (extractStridedSlice S16x4096 ![32, 0] M slices_S208x4096_o32_0_S16x4096)
          (extractStridedSlice S16x4096 ![48, 0] M slices_S208x4096_o48_0_S16x4096)))
      (addi
        (addi (extractStridedSlice S16x4096 ![64, 0] M slices_S208x4096_o64_0_S16x4096)
          (extractStridedSlice S16x4096 ![80, 0] M slices_S208x4096_o80_0_S16x4096))
        (addi (extractStridedSlice S16x4096 ![96, 0] M slices_S208x4096_o96_0_S16x4096)
          (extractStridedSlice S16x4096 ![112, 0] M slices_S208x4096_o112_0_S16x4096))))
    (addi
      (addi
        (addi (extractStridedSlice S16x4096 ![128, 0] M slices_S208x4096_o128_0_S16x4096)
          (extractStridedSlice S16x4096 ![144, 0] M slices_S208x4096_o144_0_S16x4096))
        (addi (extractStridedSlice S16x4096 ![160, 0] M slices_S208x4096_o160_0_S16x4096)
          (extractStridedSlice S16x4096 ![176, 0] M slices_S208x4096_o176_0_S16x4096)))
      (extractStridedSlice S16x4096 ![192, 0] M slices_S208x4096_o192_0_S16x4096))

/-- Sixteen rows of words added down the columns. -/
def total (X : IVec S16x4096 16) : IVec S4096 32 :=
  multiReductionI .add [0] S4096 (extsi 32 X natLt_16_32) 0#32 reduces_S16x4096_S4096 rfl

/-- Those column totals as one row of floats. -/
def row (X : IVec S16x4096 16) : FVec F S1x4096 .f32 :=
  sitofp .f32 (shapeCast S1x4096 (total X) shapeCasts_S4096_S1x4096)

/-- The twenty rows of counts laid one under the other, the first sequence's. -/
def counts64 (T : IVec S64x4096 16) : FVec F S20x4096 .bf16 :=
  truncf .bf16 (concatenate S20x4096 0
    (List.ofFn fun n : Fin 20 => (⟨S1x4096, row (fold64 (hits64 T (BitVec.ofNat 16 n.val)))⟩ : (s : Shape) × (s.Idx → F .f32)))
    concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S20x4096_d0) bitsLt_bf16_f32

/-- The twenty rows of counts laid one under the other, the second sequence's. -/
def counts208 (U : IVec S208x4096 16) : FVec F S20x4096 .bf16 :=
  truncf .bf16 (concatenate S20x4096 0
    (List.ofFn fun n : Fin 20 => (⟨S1x4096, row (fold208 (hits208 U (BitVec.ofNat 16 n.val)))⟩ : (s : Shape) × (s.Idx → F .f32)))
    concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S20x4096_d0) bitsLt_bf16_f32

/-- The block a grid point stores, over the vectors it loads. -/
def stored (x0 : Vec F S50x4096 .i32) (x1 : Vec F S4096 .f32) (x2 : Vec F S200x4096 .i32) (x3 : Vec F S4096 .f32)
    (x4 : Vec F S20x64 .f32) (x5 : Vec F S128x128 .f32) (x6 : Vec F S128 .f32) (x7 : Vec F S1x128 .f32)
    (x8 : Vec F S1 .f32) : FVec F S4096 .f32 :=
  k0_pay1 (k0_pay119 x7)
    (k0_pay120 (k0_pay2 x4 x5) (k0_pay3 x4 x5) (counts64 (k0_pay4 x0)) (counts208 (k0_pay32 x2)) (k0_pay118 x1) x3 x6)
    k0_pay121 x8

/-- What the body leaves in the output's buffer is `stored` of the blocks it loads. -/
theorem out_eq (x0 : Vec F S50x4096 .i32) (x1 : Vec F S4096 .f32) (x2 : Vec F S200x4096 .i32) (x3 : Vec F S4096 .f32)
    (x4 : Vec F S20x64 .f32) (x5 : Vec F S128x128 .f32) (x6 : Vec F S128 .f32) (x7 : Vec F S1x128 .f32)
    (x8 : Vec F S1 .f32) : out0_9 x0 x1 x2 x3 x4 x5 x6 x7 x8
      = View.canon [⟨r0_4, stored (View.ld x0 r0_2) (View.ld x1 r0_4) (View.ld x2 r0_3) (View.ld x3 r0_4)
          (View.ld x4 r0_0) (View.ld x5 r0_1) (View.ld x6 r0_5) (View.ld x7 r0_6) (View.ld x8 r0_7)⟩] := rfl

end Cert.KernelIdeal.Block

end
-- ==== Proof.Counts.lean ====
/-
  What the twenty rows of a grid point's histogram hold: row `v` at column `b` is the number of the words of column
  `b` that equal `v`. The body adds sixteen-bit words tile by tile and thirty-two-bit words down the columns; no sum
  leaves its word, since at most 208 words are added and each is one or zero.
-/
module

public import proofs.«01_k».proof.Proof.Payload
public import Idealize.ShloMosaic.Lib.Pointwise
public import Idealize.ShloMosaic.Lib.WordSum
public import Idealize.ShloMosaic.PureOps.Ideal.Laws

@[expose] public section

set_option maxRecDepth 16384

noncomputable section

namespace Cert.KernelIdeal.Block

open Cert.KernelIdeal Cert.KernelIdeal.Gen Idealize.ShloMosaic Idealize.ShloMosaic.TcCoe

/-- One when the word is `v`, else zero. -/
def hit (v x : BitVec 16) : ℕ := if x = v then 1 else 0

theorem hit_le (v x : BitVec 16) : hit v x ≤ 1 := by
  unfold hit; split <;> omega

/-- The selected word's value is `hit`. -/
theorem toNat_select (v x : BitVec 16) :
    (Scalar.select (IntOp.cmpi .eq x v) 1#16 0#16).toNat = hit v x := by
  unfold hit
  by_cases h : x = v
  · subst h; simp [Scalar.select, IntOp.cmpi]
  · have hb : (x == v) = false := by simpa using h
    simp [Scalar.select, IntOp.cmpi, h, hb]

theorem hits64_apply (T : IVec S64x4096 16) (v : BitVec 16) (i : S64x4096.Idx) :
    (hits64 T v i).toNat = hit v (T i) := toNat_select v _

theorem hits208_apply (U : IVec S208x4096 16) (v : BitVec 16) (i : S208x4096.Idx) :
    (hits208 U v i).toNat = hit v (U i) := toNat_select v _

/-- The value of the word in row `k` of column `b`, zero past the last row. -/
def colAt {n : ℕ} (M : IVec ⟨2, ![n, 4096]⟩ 16) (b : Fin 4096) (k : ℕ) : ℕ :=
  if h : k < n then (M (ix2 ⟨k, h⟩ b)).toNat else 0

theorem colAt_of_lt {n : ℕ} (M : IVec ⟨2, ![n, 4096]⟩ 16) (b : Fin 4096) (k : ℕ) (h : k < n) :
    (M (ix2 ⟨k, h⟩ b)).toNat = colAt M b k := by
  rw [colAt, dif_pos h]

theorem colAt_le {n : ℕ} (M : IVec ⟨2, ![n, 4096]⟩ 16) (hM : ∀ i, (M i).toNat ≤ 1) (b : Fin 4096) (k : ℕ) :
    colAt M b k ≤ 1 := by
  unfold colAt; split
  · exact hM _
  · omega

/-- A sum over `n` tiles of sixteen, row by row and then tile by tile, is the sum over all the rows. -/
theorem sum_tiles (n : ℕ) (f : ℕ → ℕ) :
    ∑ r : Fin 16, ∑ t ∈ Finset.range n, f (16 * t + r.val) = ∑ l ∈ Finset.range (16 * n), f l := by
  rw [Finset.sum_comm]
  induction n with
  | zero => simp
  | succ n ih =>
    rw [Finset.sum_range_succ, ih, show 16 * (n + 1) = 16 * n + 16 from rfl, Finset.sum_range_add,
      Finset.sum_range (n := 16)]

/-- Four tiles of words that are one or zero, added: the sum of the four words' values. -/
theorem fold64_apply (M : IVec S64x4096 16) (hM : ∀ i, (M i).toNat ≤ 1) (r : Fin 16) (b : Fin 4096) :
    (fold64 M (ix2 r b)).toNat = ∑ t ∈ Finset.range 4, colAt (n := 64) M b (16 * t + r.val) := by
  have h0 := colAt_le (n := 64) M hM b
  unfold fold64
  pointwise
  simp only [IntOp.addi, BitVec.toNat_add, colAt_of_lt (n := 64), Finset.sum_range_succ, Finset.range_zero, Finset.sum_empty,
    zero_add, Nat.reduceMul]
  have := h0 r.val; have := h0 (16 + r.val); have := h0 (32 + r.val); have := h0 (48 + r.val)
  omega

/-- Thirteen tiles of words that are one or zero, added: the sum of the thirteen words' values. -/
theorem fold208_apply (M : IVec S208x4096 16) (hM : ∀ i, (M i).toNat ≤ 1) (r : Fin 16) (b : Fin 4096) :
    (fold208 M (ix2 r b)).toNat = ∑ t ∈ Finset.range 13, colAt (n := 208) M b (16 * t + r.val) := by
  have h0 := colAt_le (n := 208) M hM b
  unfold fold208
  pointwise
  simp only [IntOp.addi, BitVec.toNat_add, colAt_of_lt (n := 208), Finset.sum_range_succ, Finset.range_zero, Finset.sum_empty,
    zero_add, Nat.reduceMul]
  have := h0 r.val; have := h0 (16 + r.val); have := h0 (32 + r.val); have := h0 (48 + r.val)
  have := h0 (64 + r.val); have := h0 (80 + r.val); have := h0 (96 + r.val); have := h0 (112 + r.val)
  have := h0 (128 + r.val); have := h0 (144 + r.val); have := h0 (160 + r.val); have := h0 (176 + r.val)
  have := h0 (192 + r.val)
  omega

/-- A small sixteen-bit word keeps its value when it is widened. -/
theorem signExtend_small (x : BitVec 16) (h : x.toNat ≤ 13) : (BitVec.signExtend 32 x).toNat = x.toNat := by
  have hm : x.msb = false := by rw [BitVec.msb_eq_false_iff_two_mul_lt]; omega
  rw [BitVec.signExtend_eq_setWidth_of_msb_false hm, BitVec.toNat_setWidth]
  omega

/-- Sixteen small words down a column: the total's value is the sum of the words' values. -/
theorem total_apply (X : IVec S16x4096 16) (hX : ∀ i, (X i).toNat ≤ 13) (b : Fin 4096) :
    (total X (ix1 b)).toNat = ∑ r : Fin 16, (X (ix2 r b)).toNat := by
  have e : total X (ix1 b) = ∑ r : Fin 16, BitVec.signExtend 32 (X (ix2 r b)) := by
    unfold total
    pointwise
    exact (Finset.sum_eq_fold ..).symm
  have h13 : ∑ r : Fin 16, (X (ix2 r b)).toNat ≤ 208 :=
    (Finset.sum_le_sum fun r _ => hX (ix2 r b)).trans (by simp)
  rw [e, WordSum.toNat_sum]
  · exact Finset.sum_congr rfl fun r _ => signExtend_small _ (hX _)
  · rw [Finset.sum_congr rfl fun r _ => signExtend_small _ (hX (ix2 r b))]
    omega

/-- The same total as an extended real. -/
theorem row_apply (X : IVec S16x4096 16) (hX : ∀ i, (X i).toNat ≤ 13) (b : Fin 4096) :
    row (F := Ideal) X (ix2 0 b) = (((∑ r : Fin 16, (X (ix2 r b)).toNat : ℕ) : ℝ) : EReal) := by
  have h13 : ∑ r : Fin 16, (X (ix2 r b)).toNat ≤ 208 :=
    (Finset.sum_le_sum fun r _ => hX (ix2 r b)).trans (by simp)
  unfold row
  pointwise
  have h : (total X (ix1 b)).toInt = ((∑ r : Fin 16, (X (ix2 r b)).toNat : ℕ) : ℤ) := by
    have := total_apply X hX b
    rw [BitVec.toInt_eq_toNat_of_lt (by omega), this]
  show (((total X (ix1 b)).toInt : ℝ) : EReal) = _
  rw [h, Int.cast_natCast]

/-- Row `v` of the first sequence's histogram at column `b`: how many of the 64 words of the column equal `v`. -/
theorem counts64_apply (T : IVec S64x4096 16) (v : Fin 20) (b : Fin 4096) :
    counts64 (F := Ideal) T (ix2 v b)
      = (((∑ l : Fin 64, hit (BitVec.ofNat 16 v.val) (T (ix2 l b)) : ℕ) : ℝ) : EReal) := by
  have hM : ∀ i, (hits64 T (BitVec.ofNat 16 v.val) i).toNat ≤ 1 := fun i => by
    rw [hits64_apply]; exact hit_le _ _
  have hX : ∀ i : S16x4096.Idx, (fold64 (hits64 T (BitVec.ofNat 16 v.val)) i).toNat ≤ 13 := fun i => by
    rw [eq_ix2 i, fold64_apply _ hM (i 0) (i 1)]
    exact (Finset.sum_le_sum fun t _ => colAt_le _ hM _ _).trans (by simp)
  have e : counts64 (F := Ideal) T (ix2 v b)
      = row (F := Ideal) (fold64 (hits64 T (BitVec.ofNat 16 v.val))) (ix2 0 b) :=
    concatenate_ofFn_unit_apply (t := S20x4096) (s₁ := S1x4096) 0
      (fun n : Fin 20 => row (F := Ideal) (fold64 (hits64 T (BitVec.ofNat 16 n.val))))
      concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S20x4096_d0
      rfl rfl (ix2 v b) v rfl (ix2 0 b) (fun a ha => by
        match a with
        | ⟨0, _⟩ => exact absurd rfl ha
        | ⟨1, _⟩ => rfl)
  rw [e, row_apply _ hX, Finset.sum_congr rfl fun r _ => fold64_apply _ hM r b, sum_tiles, Finset.sum_range]
  refine congrArg (fun n : ℕ => ((n : ℝ) : EReal)) (Finset.sum_congr rfl fun l _ => ?_)
  rw [← hits64_apply, colAt_of_lt]

/-- Row `v` of the second sequence's histogram at column `b`: how many of the 208 words of the column equal `v`. -/
theorem counts208_apply (U : IVec S208x4096 16) (v : Fin 20) (b : Fin 4096) :
    counts208 (F := Ideal) U (ix2 v b)
      = (((∑ l : Fin 208, hit (BitVec.ofNat 16 v.val) (U (ix2 l b)) : ℕ) : ℝ) : EReal) := by
  have hM : ∀ i, (hits208 U (BitVec.ofNat 16 v.val) i).toNat ≤ 1 := fun i => by
    rw [hits208_apply]; exact hit_le _ _
  have hX : ∀ i : S16x4096.Idx, (fold208 (hits208 U (BitVec.ofNat 16 v.val)) i).toNat ≤ 13 := fun i => by
    rw [eq_ix2 i, fold208_apply _ hM (i 0) (i 1)]
    exact (Finset.sum_le_sum fun t _ => colAt_le _ hM _ _).trans (by simp)
  have e : counts208 (F := Ideal) U (ix2 v b)
      = row (F := Ideal) (fold208 (hits208 U (BitVec.ofNat 16 v.val))) (ix2 0 b) :=
    concatenate_ofFn_unit_apply (t := S20x4096) (s₁ := S1x4096) 0
      (fun n : Fin 20 => row (F := Ideal) (fold208 (hits208 U (BitVec.ofNat 16 n.val))))
      concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S20x4096_d0
      rfl rfl (ix2 v b) v rfl (ix2 0 b) (fun a ha => by
        match a with
        | ⟨0, _⟩ => exact absurd rfl ha
        | ⟨1, _⟩ => rfl)
  rw [e, row_apply _ hX, Finset.sum_congr rfl fun r _ => fold208_apply _ hM r b, sum_tiles, Finset.sum_range]
  refine congrArg (fun n : ℕ => ((n : ℝ) : EReal)) (Finset.sum_congr rfl fun l _ => ?_)
  rw [← hits208_apply, colAt_of_lt]

/-- The first sequence's padded words: the token itself on the first 50 rows, 255 on the last 14. -/
theorem words64_apply (X : Vec Ideal S50x4096 .i32) (l : Fin 64) (b : Fin 4096) :
    k0_pay4 (F := Ideal) X (ix2 l b)
      = if h : l.val < 50 then BitVec.setWidth 16 (X (ix2 ⟨l.val, h⟩ b)) else 255#16 := by
  unfold k0_pay4
  pointwise

/-- The second sequence's padded words: the token itself on the first 200 rows, 255 on the last 8. -/
theorem words208_apply (X : Vec Ideal S200x4096 .i32) (l : Fin 208) (b : Fin 4096) :
    k0_pay32 (F := Ideal) X (ix2 l b)
      = if h : l.val < 200 then BitVec.setWidth 16 (X (ix2 ⟨l.val, h⟩ b)) else 255#16 := by
  unfold k0_pay32
  pointwise

end Cert.KernelIdeal.Block

end
-- ==== Proof.Mean.lean ====
/-
  The mathematics, with no program in it. A sequence of tokens names rows of an embedding table. The mean of the
  named rows, taken through a linear layer, is the same number whether the rows are summed first, divided by the
  length and contracted with the weights, or the table is contracted with the weights first and each of the twenty
  results is counted as often as its token occurs, then scaled by the inverse length.
-/
module

public import Idealize.ShloMosaic.Lib.Pointwise
public import Idealize.ShloMosaic.PureOps.Ideal.Laws

@[expose] public section

noncomputable section

namespace Cert.Pool

open Idealize.ShloMosaic

/-- The row of the table a token word names. -/
def tok (x : BitVec 32) : Fin 20 := ⟨x.toNat % 20, Nat.mod_lt _ (by decide)⟩

/-- How many of `L` tokens are the token `v`. -/
def count {L : ℕ} (t : Fin L → Fin 20) (v : Fin 20) : ℕ := ∑ l : Fin L, if t l = v then 1 else 0

/-- The kernel's way: the table contracted with the weights, each row of the result counted as often as its token
    occurs, once whole and once for the remainder the split into two parts leaves, then scaled by the inverse length. -/
def counted {L : ℕ} (E : Fin 20 → Fin 64 → EReal) (w : Fin 64 → EReal) (t : Fin L → Fin 20) (n : EReal) : EReal :=
  (∑ v : Fin 20, (∑ d : Fin 64, E v d * w d) * ((count t v : ℝ) : EReal)
    + ∑ v : Fin 20, ((∑ d : Fin 64, E v d * w d) - ∑ d : Fin 64, E v d * w d) * ((count t v : ℝ) : EReal))
  * Ideal.div 1 n

/-- The plain way: the named rows summed, divided by the length, then contracted with the weights. -/
def mean {L : ℕ} (E : Fin 20 → Fin 64 → EReal) (w : Fin 64 → EReal) (t : Fin L → Fin 20) (n : EReal) : EReal :=
  ∑ d : Fin 64, Ideal.div (∑ l : Fin L, E (t l) d) n * w d

/-- The head of the network: two halves of the hidden layer and its bias added, the negative ones cut to zero,
    contracted with the output weights, and the output bias added. -/
def score (p q b1 w2 : Fin 128 → EReal) (b2 : EReal) : EReal := ∑ h : Fin 128, max (p h + q h + b1 h) 0 * w2 h + b2

/-- Summing a function of the token over the sequence is summing it over the tokens, each as often as it occurs. -/
theorem sum_count {L : ℕ} (f : Fin 20 → ℝ) (t : Fin L → Fin 20) :
    ∑ v : Fin 20, f v * (count t v : ℝ) = ∑ l : Fin L, f (t l) := by
  simp only [count, Nat.cast_sum, Nat.cast_ite, Nat.cast_one, Nat.cast_zero, Finset.mul_sum]
  rw [Finset.sum_comm]
  refine Finset.sum_congr rfl fun l _ => ?_
  simp

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inverse of any nonzero extended real is a real. -/
theorem inv_real (n : EReal) (hn : n ≠ 0) : ∃ r : ℝ, n⁻¹ = (r : EReal) := by
  induction n using EReal.rec with
  | bot => exact ⟨0, EReal.inv_bot.trans EReal.coe_zero.symm⟩
  | top => exact ⟨0, EReal.inv_top.trans EReal.coe_zero.symm⟩
  | coe x => exact ⟨x⁻¹, (EReal.coe_inv x).symm⟩

/-- Division by a nonzero extended real is multiplication by its inverse. -/
theorem div_ne (x n : EReal) (hn : n ≠ 0) : Ideal.div x n = x * n⁻¹ := by
  unfold Ideal.div
  rw [if_neg hn]

/-- THE EQUATION, for a table and weights of reals and a length other than zero. -/
theorem counted_eq_mean {L : ℕ} (e : Fin 20 → Fin 64 → ℝ) (w : Fin 64 → ℝ) (t : Fin L → Fin 20) (n : EReal) (hn : n ≠ 0) :
    counted (fun v d => (e v d : EReal)) (fun d => (w d : EReal)) t n
      = mean (fun v d => (e v d : EReal)) (fun d => (w d : EReal)) t n := by
  obtain ⟨r, hr⟩ := inv_real n hn
  unfold counted mean
  simp only [div_ne _ n hn, hr, one_mul, ← EReal.coe_mul, ← coe_sum, ← EReal.coe_sub, ← EReal.coe_add, sub_self, zero_mul,
    Finset.sum_const_zero, add_zero]
  refine congrArg _ ?_
  rw [sum_count (fun v => ∑ d : Fin 64, e v d * w d) t, Finset.sum_comm, Finset.sum_mul]
  refine Finset.sum_congr rfl fun d _ => ?_
  rw [← Finset.sum_mul]
  ring

end Cert.Pool

end
-- ==== Proof.BlockValue.lean ====
/-
  One entry of the block a grid point stores, as a formula over the vectors the point loads.
-/
module

public import proofs.«01_k».proof.Proof.Counts
public import proofs.«01_k».proof.Proof.Mean

@[expose] public section

set_option maxRecDepth 16384

noncomputable section

namespace Cert.KernelIdeal.Block

open Cert.KernelIdeal Cert.KernelIdeal.Gen Idealize.ShloMosaic Idealize.ShloMosaic.TcCoe

/-- The table contracted with the first half of the hidden weights. -/
theorem tableA_apply (E : Vec Ideal S20x64 .f32) (W : Vec Ideal S128x128 .f32) (v : Fin 20) (h : Fin 128) :
    k0_pay2 (F := Ideal) E W (ix2 v h) = ∑ x : Fin 64, E (ix2 v x) * W (ix2 h ⟨x.val, by omega⟩) := by
  unfold k0_pay2
  pointwise

/-- The table contracted with the second half of the hidden weights. -/
theorem tableB_apply (E : Vec Ideal S20x64 .f32) (W : Vec Ideal S128x128 .f32) (v : Fin 20) (h : Fin 128) :
    k0_pay3 (F := Ideal) E W (ix2 v h) = ∑ x : Fin 64, E (ix2 v x) * W (ix2 h ⟨64 + x.val, by omega⟩) := by
  unfold k0_pay3
  pointwise

/-- The inverse of the first length. -/
theorem inverse_apply (y : Vec Ideal S4096 .f32) (b : Fin 4096) :
    k0_pay118 (F := Ideal) y (ix2 0 b) = Ideal.div 1 (y (ix1 b)) := by
  unfold k0_pay118
  pointwise

/-- The hidden layer before its negative entries are cut: each table times its counts, scaled by the inverse length,
    the two added, and the bias added. -/
theorem hidden_apply (A B : FVec Ideal S20x128 .f32) (C D : FVec Ideal S20x4096 .bf16) (r : FVec Ideal S1x4096 .f32)
    (y : Vec Ideal S4096 .f32) (z : Vec Ideal S128 .f32) (h : Fin 128) (b : Fin 4096) :
    k0_pay120 (F := Ideal) A B C D r y z (ix2 h b)
      = (∑ x : Fin 20, A (ix2 x h) * C (ix2 x b) + ∑ x : Fin 20, (A (ix2 x h) - A (ix2 x h)) * C (ix2 x b)) * r (ix2 0 b)
        + (∑ x : Fin 20, B (ix2 x h) * D (ix2 x b) + ∑ x : Fin 20, (B (ix2 x h) - B (ix2 x h)) * D (ix2 x b)) * Ideal.div 1 (y (ix1 b))
        + z (ix1 h) := by
  unfold k0_pay120
  pointwise

/-- A padded word is the token `v` exactly where it is a token of the sequence and that token is `v`. -/
theorem hit_word (x : BitVec 32) (hx : x.toNat < 20) (v : Fin 20) :
    hit (BitVec.ofNat 16 v.val) (BitVec.setWidth 16 x) = if Pool.tok x = v then 1 else 0 := by
  unfold hit
  refine if_congr ?_ rfl rfl
  rw [← BitVec.toNat_inj, Fin.ext_iff, BitVec.toNat_setWidth, BitVec.toNat_ofNat]
  show _ ↔ x.toNat % 20 = v.val
  have := v.isLt
  omega

/-- The padding is no token. -/
theorem hit_pad (v : Fin 20) : hit (BitVec.ofNat 16 v.val) 255#16 = 0 := by
  unfold hit
  refine if_neg fun h => ?_
  have := congrArg BitVec.toNat h
  rw [BitVec.toNat_ofNat, BitVec.toNat_ofNat] at this
  have := v.isLt
  omega

/-- The histogram of a padded sequence counts the tokens of the sequence. -/
theorem sum_hits (n p : ℕ) (t : Fin n → BitVec 32) (ht : ∀ l, (t l).toNat < 20) (v : Fin 20) :
    (∑ l : Fin (n + p), hit (BitVec.ofNat 16 v.val) (if h : l.val < n then BitVec.setWidth 16 (t ⟨l.val, h⟩) else 255#16))
      = Pool.count (fun l => Pool.tok (t l)) v := by
  rw [Fin.sum_univ_add]
  have e0 : ∀ l : Fin p, hit (BitVec.ofNat 16 v.val)
      (if h : (Fin.natAdd n l).val < n then BitVec.setWidth 16 (t ⟨(Fin.natAdd n l).val, h⟩) else 255#16) = 0 := fun l => by
    rw [dif_neg (by simp), hit_pad]
  have e1 : ∀ l : Fin n, hit (BitVec.ofNat 16 v.val)
      (if h : (Fin.castAdd p l).val < n then BitVec.setWidth 16 (t ⟨(Fin.castAdd p l).val, h⟩) else 255#16)
      = if Pool.tok (t l) = v then 1 else 0 := fun l => by
    rw [dif_pos (by simp)]; exact hit_word _ (ht l) v
  rw [Finset.sum_congr rfl fun l _ => e0 l, Finset.sum_congr rfl fun l _ => e1 l, Finset.sum_const_zero, Nat.add_zero]
  rfl

/-- The first sequence's histogram of the block's tokens. -/
theorem histA_apply (X : Vec Ideal S50x4096 .i32) (hX : ∀ i, (show BitVec 32 from X i).toNat < 20) (v : Fin 20) (b : Fin 4096) :
    counts64 (F := Ideal) (k0_pay4 (F := Ideal) X) (ix2 v b)
      = ((Pool.count (fun l : Fin 50 => Pool.tok (X (ix2 l b))) v : ℝ) : EReal) := by
  rw [counts64_apply, Finset.sum_congr rfl fun l _ => congrArg _ (words64_apply X l b)]
  exact congrArg (fun n : ℕ => ((n : ℝ) : EReal)) (sum_hits 50 14 (fun l => X (ix2 l b)) (fun l => hX _) v)

/-- The second sequence's histogram of the block's tokens. -/
theorem histB_apply (X : Vec Ideal S200x4096 .i32) (hX : ∀ i, (show BitVec 32 from X i).toNat < 20) (v : Fin 20) (b : Fin 4096) :
    counts208 (F := Ideal) (k0_pay32 (F := Ideal) X) (ix2 v b)
      = ((Pool.count (fun l : Fin 200 => Pool.tok (X (ix2 l b))) v : ℝ) : EReal) := by
  rw [counts208_apply, Finset.sum_congr rfl fun l _ => congrArg _ (words208_apply X l b)]
  exact congrArg (fun n : ℕ => ((n : ℝ) : EReal)) (sum_hits 200 8 (fun l => X (ix2 l b)) (fun l => hX _) v)

/-- ONE ENTRY OF THE BLOCK a grid point stores: the counted form of both sequences, then the head of the network. -/
theorem stored_apply (x0 : Vec Ideal S50x4096 .i32) (x1 : Vec Ideal S4096 .f32) (x2 : Vec Ideal S200x4096 .i32)
    (x3 : Vec Ideal S4096 .f32) (x4 : Vec Ideal S20x64 .f32) (x5 : Vec Ideal S128x128 .f32) (x6 : Vec Ideal S128 .f32)
    (x7 : Vec Ideal S1x128 .f32) (x8 : Vec Ideal S1 .f32) (h0 : ∀ i, (show BitVec 32 from x0 i).toNat < 20)
    (h2 : ∀ i, (show BitVec 32 from x2 i).toNat < 20) (b : Fin 4096) :
    stored (F := Ideal) x0 x1 x2 x3 x4 x5 x6 x7 x8 (ix1 b)
      = Pool.score
          (fun h => Pool.counted (fun v d => x4 (ix2 v d)) (fun d => x5 (ix2 h ⟨d.val, by omega⟩)) (fun l : Fin 50 => Pool.tok (x0 (ix2 l b))) (x1 (ix1 b)))
          (fun h => Pool.counted (fun v d => x4 (ix2 v d)) (fun d => x5 (ix2 h ⟨64 + d.val, by omega⟩)) (fun l : Fin 200 => Pool.tok (x2 (ix2 l b))) (x3 (ix1 b)))
          (fun h => x6 (ix1 h)) (fun h => x7 (ix2 0 h)) (x8 (ix1 0)) := by
  have e : stored (F := Ideal) x0 x1 x2 x3 x4 x5 x6 x7 x8 (ix1 b)
      = ∑ x : Fin 128, max (k0_pay120 (F := Ideal) (k0_pay2 x4 x5) (k0_pay3 x4 x5) (counts64 (k0_pay4 x0)) (counts208 (k0_pay32 x2)) (k0_pay118 x1) x3 x6 (ix2 x b)) 0
          * x7 (ix2 0 x) + x8 (ix1 0) := by
    unfold stored k0_pay1 k0_pay119 k0_pay121
    pointwise
  rw [e]
  simp only [hidden_apply, tableA_apply, tableB_apply, inverse_apply, histA_apply x0 h0, histB_apply x2 h2]
  rfl

end Cert.KernelIdeal.Block

end
-- ==== Proof.Final.lean ====
/-
  The kernel's result array at the end, entry by entry, over the argument arrays.
-/
module

public import proofs.«01_k».proof.Proof.BlockValue
public import proofs.«01_k».proof.Proof.Gen.KernelIdeal.Value
public import Idealize.ShloMosaic.Lib.Pipeline.ValueKit

@[expose] public section

set_option maxRecDepth 16384

noncomputable section

namespace Cert.KernelIdeal.Final

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem idx : ∀ t : Fin cfg0.N, win0_0.index t = ![0, t.val] ∧ win0_1.index t = ![t.val] ∧ win0_2.index t = ![0, t.val]
    ∧ win0_3.index t = ![t.val] ∧ win0_4.index t = ![0, 0] ∧ win0_5.index t = ![0, 0] ∧ win0_6.index t = ![0]
    ∧ win0_7.index t = ![0, 0] ∧ win0_8.index t = ![0] ∧ win0_9.index t = ![t.val] :=
  (by decide +kernel : ∀ t : Fin grid0.N, _)

/-- The row of the batch that column `b` of grid point `t`'s block is. -/
def pos (t : Fin cfg0.N) (b : Fin 4096) : Fin 16384 :=
  ⟨t.val * 4096 + b.val, by have h : t.val < 4 := t.isLt; omega⟩

/-- The stored block and the loaded vectors start at offset zero. -/
theorem hz1 : (![0] : Fin 1 → Nat) = fun _ => 0 := funext fun a => by fin_cases a <;> rfl
/-- The loaded matrices start at offset zero. -/
theorem hz2 : (![0, 0] : Fin 2 → Nat) = fun _ => 0 := funext fun a => by fin_cases a <;> rfl

/-- The first sequence's block: the tokens transposed. -/
theorem read0 (c : Dev nD) (t : Fin cfg0.N) (l : Fin 50) (b : Fin 4096) :
    iblk m c 0 t (ix2 l b) = m ((c : Thread nD τ).loc main_arg0) (ix2 (pos t b) l) := by
  blk_simp [iblk]
  entry_read
  pointwise
  blk_ext [idx t, pos]

/-- The first lengths' block. -/
theorem read1 (c : Dev nD) (t : Fin cfg0.N) (b : Fin 4096) :
    iblk m c 1 t (ix1 b) = m ((c : Thread nD τ).loc main_arg1) (ix1 (pos t b)) := by
  blk_ext [iblk, V, idx t, pos]

/-- The second sequence's block: the tokens transposed. -/
theorem read2 (c : Dev nD) (t : Fin cfg0.N) (l : Fin 200) (b : Fin 4096) :
    iblk m c 2 t (ix2 l b) = m ((c : Thread nD τ).loc main_arg2) (ix2 (pos t b) l) := by
  blk_simp [iblk]
  entry_read
  pointwise
  blk_ext [idx t, pos]

/-- The second lengths' block. -/
theorem read3 (c : Dev nD) (t : Fin cfg0.N) (b : Fin 4096) :
    iblk m c 3 t (ix1 b) = m ((c : Thread nD τ).loc main_arg3) (ix1 (pos t b)) := by
  blk_ext [iblk, V, idx t, pos]

/-- The table is held whole. -/
theorem read4 (c : Dev nD) (t : Fin cfg0.N) (i : S20x64.Idx) :
    iblk m c 4 t i = m ((c : Thread nD τ).loc main_arg4) i := by
  blk_ext [iblk, V, idx t]

/-- The hidden weights are held whole. -/
theorem read5 (c : Dev nD) (t : Fin cfg0.N) (i : S128x128.Idx) :
    iblk m c 5 t i = m ((c : Thread nD τ).loc main_arg5) i := by
  blk_ext [iblk, V, idx t]

/-- The hidden bias is held whole. -/
theorem read6 (c : Dev nD) (t : Fin cfg0.N) (i : S128.Idx) :
    iblk m c 6 t i = m ((c : Thread nD τ).loc main_arg6) i := by
  blk_ext [iblk, V, idx t]

/-- The output weights are held whole. -/
theorem read7 (c : Dev nD) (t : Fin cfg0.N) (i : S1x128.Idx) :
    iblk m c 7 t i = m ((c : Thread nD τ).loc main_arg7) i := by
  blk_ext [iblk, V, idx t]

/-- The output bias is held whole. -/
theorem read8 (c : Dev nD) (t : Fin cfg0.N) (i : S1.Idx) :
    iblk m c 8 t i = m ((c : Thread nD τ).loc main_arg8) i := by
  blk_ext [iblk, V, idx t]

/-- Row `b` of the result over the argument arrays of device `c`: the counted form of both sequences, then the head. -/
def entry (c : Dev nD) (b : Fin 16384) : EReal :=
  Pool.score
    (fun h => Pool.counted (fun v d => m ((c : Thread nD τ).loc main_arg4) (ix2 v d)) (fun d => m ((c : Thread nD τ).loc main_arg5) (ix2 h ⟨d.val, by omega⟩))
      (fun l : Fin 50 => Pool.tok (m ((c : Thread nD τ).loc main_arg0) (ix2 b l))) (m ((c : Thread nD τ).loc main_arg1) (ix1 b)))
    (fun h => Pool.counted (fun v d => m ((c : Thread nD τ).loc main_arg4) (ix2 v d)) (fun d => m ((c : Thread nD τ).loc main_arg5) (ix2 h ⟨64 + d.val, by omega⟩))
      (fun l : Fin 200 => Pool.tok (m ((c : Thread nD τ).loc main_arg2) (ix2 b l))) (m ((c : Thread nD τ).loc main_arg3) (ix1 b)))
    (fun h => m ((c : Thread nD τ).loc main_arg6) (ix1 h)) (fun h => m ((c : Thread nD τ).loc main_arg7) (ix2 0 h))
    (m ((c : Thread nD τ).loc main_arg8) (ix1 0))

/-- What grid point `t` leaves in the result's block, over the argument arrays. -/
theorem block_apply (c : Dev nD) (t : Fin cfg0.N)
    (h0 : ∀ i : S16384x50.Idx, (show BitVec 32 from m ((c : Thread nD τ).loc main_arg0) i).toNat < 20)
    (h2 : ∀ i : S16384x200.Idx, (show BitVec 32 from m ((c : Thread nD τ).loc main_arg2) i).toNat < 20) (b : Fin 4096) :
    out0_9 (iblk m c 0 t) (iblk m c 1 t) (iblk m c 2 t) (iblk m c 3 t) (iblk m c 4 t) (iblk m c 5 t) (iblk m c 6 t) (iblk m c 7 t) (iblk m c 8 t) (ix1 b)
      = entry m c (pos t b) := by
  rw [out_eq, View.canon_unit_zero hz1, View.ld_unit_zero hz2, View.ld_unit_zero hz1, View.ld_unit_zero hz2, View.ld_unit_zero hz1,
    View.ld_unit_zero hz2, View.ld_unit_zero hz2, View.ld_unit_zero hz1, View.ld_unit_zero hz2, View.ld_unit_zero hz1, stored_apply]
  · simp only [read0, read1, read2, read3, read4, read5, read6, read7, read8]
    rfl
  · intro i
    rw [eq_ix2 i, read0 m c t (i 0) (i 1)]
    exact h0 _
  · intro i
    rw [eq_ix2 i, read2 m c t (i 0) (i 1)]
    exact h2 _

/-- THE RESULT ARRAY at the end, of tokens in range: entry `i` is row `i` of the formula over the argument arrays. -/
theorem final (c : Dev nD)
    (h0 : ∀ i : S16384x50.Idx, (show BitVec 32 from m ((c : Thread nD τ).loc main_arg0) i).toNat < 20)
    (h2 : ∀ i : S16384x200.Idx, (show BitVec 32 from m ((c : Thread nD τ).loc main_arg2) i).toNat < 20) :
    (dats m 0 c).arrAt 9 cfg0.N = fun i : S16384.Idx => entry m c (i 0) := by
  refine (dats m 0 c).arrAt_eq_of_covers 9 (fun i : S16384.Idx => entry m c (i 0)) (by decide +kernel) fun t _ y => ?_
  blk_simp
  rw [after0_9]
  have e := block_apply m c t h0 h2 (y 0)
  rw [← eq_ix1 y] at e
  refine e.trans (congrArg (entry m c) (Fin.ext ?_))
  blk_simp [idx t, pos]

end Cert.KernelIdeal.Final

end
-- ==== Proof.Lookup.lean ====
/-
  The reference's table lookup at an index: of tokens in range, entry `(b, l, d)` of the looked-up rows is entry `d`
  of the row that token `(b, l)` names.
-/
module

public import proofs.«01_k».proof.Proof.Mean
public import proofs.«01_k».proof.Proof.Gen.ReferenceIdeal.Read

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe

/-- Rows of a `[20, 64]` table gathered by `[16384, L, 1]` row numbers, one whole row per number. -/
abbrev rowDims (L : ℕ) (wf : GatherDims.WF ⟨2, ![20, 64]⟩ ⟨3, ![16384, L, 1]⟩ ⟨3, ![16384, L, 64]⟩ [2] [0] [] [0] [] 2 ![1, 64]) :
    GatherDims ⟨2, ![20, 64]⟩ ⟨3, ![16384, L, 1]⟩ ⟨3, ![16384, L, 64]⟩ :=
  { offsetDims := [2], collapsedSliceDims := [0], operandBatchingDims := [], startIndicesBatchingDims := [],
    startIndexMap := [0], indexVectorDim := 2, sliceSizes := ![1, 64], wf := wf }

/-- The gather at an index: the row number is read signed and cut to the table's last row. -/
theorem gather_rows {α : Type} {L : ℕ}
    (wf : GatherDims.WF ⟨2, ![20, 64]⟩ ⟨3, ![16384, L, 1]⟩ ⟨3, ![16384, L, 64]⟩ [2] [0] [] [0] [] 2 ![1, 64])
    (T : (⟨2, ![20, 64]⟩ : Shape).Idx → α) (I : IVec ⟨3, ![16384, L, 1]⟩ 32) (b : Fin 16384) (l : Fin L) (d : Fin 64) :
    Host.gather (rowDims L wf) T I (ix3 b l d)
      = T (ix2 ⟨min (I (ix3 b l 0)).toInt.toNat 19, by omega⟩ d) := by
  unfold Host.gather
  refine congrArg T (funext fun a => Fin.ext ?_)
  show (rowDims L wf).start (ix3 b l d) I a + (rowDims L wf).batchCoord (ix3 b l d) a
    + (rowDims L wf).offCoord (ix3 b l d) a = _
  rw [GatherDims.batchCoord_eq_zero _ _ _ (by simp), Nat.add_zero]
  match a with
  | ⟨0, _⟩ =>
    have hs : (rowDims L wf).siIdx (ix3 b l d) ⟨0, by simp⟩ = ix3 b l 0 := by
      funext c
      match c with
      | ⟨0, _⟩ => rfl
      | ⟨1, _⟩ => rfl
      | ⟨2, _⟩ => rfl
    have ho : (rowDims L wf).offCoord (ix3 b l d) 0 = 0 :=
      GatherDims.offCoord_eq_zero _ _ _ fun h => ((GatherDims.mem_sKept _ _).mp h).1 (by simp)
    have ht : (rowDims L wf).start (ix3 b l d) I 0 = min (I (ix3 b l 0)).toInt.toNat 19 := by
      rw [← hs]; unfold GatherDims.start; rw [dif_pos (by simp)]; rfl
    exact (congrArg₂ (· + ·) ht ho)
  | ⟨1, _⟩ =>
    have ht : (rowDims L wf).start (ix3 b l d) I 1 = 0 := by
      unfold GatherDims.start; rw [dif_neg (by simp)]
    have ho : (rowDims L wf).offCoord (ix3 b l d) 1 = d.val := by
      unfold GatherDims.offCoord
      rw [dif_pos ((GatherDims.mem_sKept _ _).mpr ⟨by simp, by simp⟩)]; rfl
    exact (congrArg₂ (· + ·) ht ho).trans (Nat.zero_add _)

/-- A word in range is not negative as a signed number. -/
theorem not_neg (x : BitVec 32) (hx : x.toNat < 20) : IntOp.cmpi .slt x 0#32 = 0#1 := by
  have h : x.slt 0#32 = false := by
    rw [BitVec.slt, BitVec.toInt_eq_toNat_of_lt (by omega)]
    simp
  exact congrArg BitVec.ofBool h

/-- A word in range passes the lookup's own test of its range. -/
theorem in_range (x : BitVec 32) (hx : x.toNat < 20) :
    IntOp.andi (IntOp.cmpi .sge x 0#32) (IntOp.cmpi .sle x 19#32) = 1#1 := by
  have h0 : (0#32).sle x = true := by
    rw [BitVec.sle, BitVec.toInt_eq_toNat_of_lt (x := x) (by omega)]
    simp
  have h1 : x.sle 19#32 = true := by
    rw [BitVec.sle, BitVec.toInt_eq_toNat_of_lt (x := x) (by omega)]
    have : (19#32).toInt = 19 := by decide
    rw [this]
    exact decide_eq_true (by omega)
  have e0 : IntOp.cmpi .sge x 0#32 = 1#1 := congrArg BitVec.ofBool h0
  have e1 : IntOp.cmpi .sle x 19#32 = 1#1 := congrArg BitVec.ofBool h1
  rw [e0, e1]
  decide

/-- The lookup tests a row number of one component; the test over that single component holds for a word in range. -/
theorem fold_in_range (f : Fin 1 → BitVec 32) (hf : (f 0).toNat < 20) :
    Finset.fold IntOp.andi 1#1 (fun k => IntOp.andi (IntOp.cmpi .sge (f k) 0#32) (IntOp.cmpi .sle (f k) 19#32)) Finset.univ = 1#1 := by
  rw [Finset.univ_unique, Finset.fold_singleton]
  show IntOp.andi (IntOp.andi (IntOp.cmpi .sge (f 0) 0#32) (IntOp.cmpi .sle (f 0) 19#32)) 1#1 = 1#1
  rw [in_range _ hf]
  decide

/-- A word in range, cut to the table's last row, is the row it names. -/
theorem clamp_eq (x : BitVec 32) (hx : x.toNat < 20) : min x.toInt.toNat 19 = (Pool.tok x).val := by
  rw [BitVec.toInt_eq_toNat_of_lt (by omega)]
  simp only [Pool.tok, Int.toNat_natCast]
  omega

/-- The rows the first sequence (50 tokens) names. -/
theorem rowsA_apply (x : IVec S16384x50 32) (hx : ∀ i, (x i).toNat < 20) (T : FVec Ideal S20x64 .f32) (b : Fin 16384) (l : Fin 50) (d : Fin 64) :
    val_main_v0 (F := Ideal) x T (ix3 b l d) = T (ix2 (Pool.tok (x (ix2 b l))) d) := by
  have hI : val_main_call0_v5 (F := Ideal) x (ix3 b l 0) = x (ix2 b l) := by
    unfold val_main_call0_v5 val_main_call0_v4 val_main_call0_v3 val_main_call0_v2 val_main_call0_v1 val_main_call0_v0 val_main_call0_c val_main_call0_c_0
    pointwise
    rw [not_neg _ (hx _)]
    rfl
  have hg : val_main_call0_v13 (F := Ideal) x T (ix3 b l d) = T (ix2 (Pool.tok (x (ix2 b l))) d) := by
    refine (gather_rows (L := 50) _ T (val_main_call0_v5 (F := Ideal) x) b l d).trans ?_
    refine congrArg (fun k => T (ix2 k d)) (Fin.ext ?_)
    show min (val_main_call0_v5 (F := Ideal) x (ix3 b l 0)).toInt.toNat 19 = _
    rw [hI]
    exact clamp_eq _ (hx _)
  have hm : val_main_call0_v14 (F := Ideal) x (ix3 b l d) = 1#1 := by
    unfold val_main_call0_v14 val_main_call0_v12 val_main_call0_v11 val_main_call0_v10 val_main_call0_v7 val_main_call0_v9 val_main_call0_v8 val_main_call0_c_1 val_main_call0_v6 val_main_call0_c_2 val_main_call0_c_3
    pointwise
    exact fold_in_range (fun k => val_main_call0_v5 (F := Ideal) x (ix3 b l k)) (hI ▸ hx _)
  rw [val_main_v0_apply, hm, hg]
  rfl

/-- The rows the second sequence (200 tokens) names. -/
theorem rowsB_apply (x : IVec S16384x200 32) (hx : ∀ i, (x i).toNat < 20) (T : FVec Ideal S20x64 .f32) (b : Fin 16384) (l : Fin 200) (d : Fin 64) :
    val_main_v5 (F := Ideal) x T (ix3 b l d) = T (ix2 (Pool.tok (x (ix2 b l))) d) := by
  have hI : val_main_call1_v5 (F := Ideal) x (ix3 b l 0) = x (ix2 b l) := by
    unfold val_main_call1_v5 val_main_call1_v4 val_main_call1_v3 val_main_call1_v2 val_main_call1_v1 val_main_call1_v0 val_main_call1_c val_main_call1_c_0
    pointwise
    rw [not_neg _ (hx _)]
    rfl
  have hg : val_main_call1_v13 (F := Ideal) x T (ix3 b l d) = T (ix2 (Pool.tok (x (ix2 b l))) d) := by
    refine (gather_rows (L := 200) _ T (val_main_call1_v5 (F := Ideal) x) b l d).trans ?_
    refine congrArg (fun k => T (ix2 k d)) (Fin.ext ?_)
    show min (val_main_call1_v5 (F := Ideal) x (ix3 b l 0)).toInt.toNat 19 = _
    rw [hI]
    exact clamp_eq _ (hx _)
  have hm : val_main_call1_v14 (F := Ideal) x (ix3 b l d) = 1#1 := by
    unfold val_main_call1_v14 val_main_call1_v12 val_main_call1_v11 val_main_call1_v10 val_main_call1_v7 val_main_call1_v9 val_main_call1_v8 val_main_call1_c_1 val_main_call1_v6 val_main_call1_c_2 val_main_call1_c_3
    pointwise
    exact fold_in_range (fun k => val_main_call1_v5 (F := Ideal) x (ix3 b l k)) (hI ▸ hx _)
  rw [val_main_v5_apply, hm, hg]
  rfl

end Cert.ReferenceIdeal.RefValue

end
-- ==== Proof.RefValue.lean ====
/-
  What the reference returns, entry by entry, of tokens in range.
-/
module

public import proofs.«01_k».proof.Proof.Lookup

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe

/-- The reference's result at row `b`: the mean of each sequence's rows through its half of the hidden weights, then
    the head of the network. -/
theorem result_apply (x0 : IVec S16384x50 32) (x1 : FVec Ideal S16384 .f32) (x2 : IVec S16384x200 32) (x3 : FVec Ideal S16384 .f32)
    (x4 : FVec Ideal S20x64 .f32) (x5 : FVec Ideal S128x128 .f32) (x6 : FVec Ideal S128 .f32) (x7 : FVec Ideal S1x128 .f32)
    (x8 : FVec Ideal S1 .f32) (h0 : ∀ i, (x0 i).toNat < 20) (h2 : ∀ i, (x2 i).toNat < 20) (b : Fin 16384) :
    val_main_v22 (F := Ideal) x0 x1 x2 x3 x4 x5 x6 x7 x8 (ix1 b)
      = Pool.score
          (fun h => Pool.mean (fun v d => x4 (ix2 v d)) (fun d => x5 (ix2 h ⟨d.val, by omega⟩)) (fun l : Fin 50 => Pool.tok (x0 (ix2 b l))) (x1 (ix1 b)))
          (fun h => Pool.mean (fun v d => x4 (ix2 v d)) (fun d => x5 (ix2 h ⟨64 + d.val, by omega⟩)) (fun l : Fin 200 => Pool.tok (x2 (ix2 b l))) (x3 (ix1 b)))
          (fun h => x6 (ix1 h)) (fun h => x7 (ix2 0 h)) (x8 (ix1 0)) := by
  unfold val_main_v22 val_main_v21 val_main_v20 val_main_v19 val_main_v18 val_main_v17 val_main_v16 val_main_v15 val_main_v14 val_main_v13 val_main_v12 val_main_v11 val_main_v10 val_main_v9 val_main_v8 val_main_v7 val_main_v6 val_main_v4 val_main_v3 val_main_v2 val_main_v1 val_main_cst val_main_cst_0 val_main_call2_v0 val_main_call2_cst
  pointwise
  simp only [rowsA_apply x0 h0 x4, rowsB_apply x2 h2 x4]
  rfl

end Cert.ReferenceIdeal.RefValue

end
-- ==== Proof.Given.lean ====
/-
  What the precondition says of the argument arrays, index by index.
-/
module

public import proofs.«01_k».proof.Defs
public import proofs.«01_k».proof.Proof.Gen.Pre_well_posed
public import proofs.«01_k».proof.Proof.Mean

@[expose] public section

set_option maxRecDepth 16384

noncomputable section

namespace Cert.Given

open Cert.Pre_well_posed Idealize.ShloMosaic

/-- A word at least zero and below twenty as a signed number is one of the first twenty words. -/
theorem word_range (x : BitVec 32) (h : IntOp.andi (IntOp.cmpi .sge x 0#32) (IntOp.cmpi .slt x 20#32) = 1#1) : x.toNat < 20 := by
  have e : ∀ p q : Bool, BitVec.ofBool p &&& BitVec.ofBool q = 1#1 → p = true ∧ q = true := by decide
  obtain ⟨h0, h1⟩ := e ((0#32).sle x) (x.slt 20#32) h
  rw [BitVec.sle, decide_eq_true_eq] at h0
  rw [BitVec.slt, decide_eq_true_eq] at h1
  have z : (0#32).toInt = 0 := by decide
  have k : (20#32).toInt = 20 := by decide
  rw [z] at h0
  rw [k] at h1
  have := BitVec.toInt_eq_toNat_cond x
  split at this <;> omega

/-- An extended real whose absolute value is below infinity is a real. -/
theorem real_of_abs (x : EReal) (h : max x (-x) < ⊤) : ∃ r : ℝ, x = (r : EReal) := by
  induction x using EReal.rec with
  | bot => exact absurd h (by simp)
  | top => exact absurd h (by simp)
  | coe r => exact ⟨r, rfl⟩

variable (x0 : IVec S16384x50 32) (x1 : FVec Ideal S16384 .f32) (x2 : IVec S16384x200 32) (x3 : FVec Ideal S16384 .f32)
  (x4 : FVec Ideal S20x64 .f32) (x5 : FVec Ideal S128x128 .f32) (x6 : FVec Ideal S128 .f32) (x7 : FVec Ideal S1x128 .f32)
  (x8 : FVec Ideal S1 .f32)

/-- The bit of a test that came out one. -/
theorem of_bit (p : Prop) [Decidable p] (h : BitVec.ofBool (decide p) = 1#1) : p := by
  by_contra hp
  rw [decide_eq_false hp] at h
  exact absurd h (by decide)

/-- The pattern the finiteness tests compare with denotes infinity. -/
theorem inf_top : Ideal.ofBits .f32 2139095040#32 = (⊤ : EReal) := by
  simp [Ideal.ofBits, Ideal.ieee]

/-- Every token of the first sequence is in range. -/
theorem tokensA (h : (fn (F := Ideal) x0 x1 x2 x3 x4 x5 x6 x7 x8).1 = fun _ => 1#1) (i : S16384x50.Idx) : (x0 i).toNat < 20 := by
  have e : (fn (F := Ideal) x0 x1 x2 x3 x4 x5 x6 x7 x8).1 (ix2 (i 0) (i 1)) = 1#1 := congrFun h _
  unfold fn fn_part1 at e
  dsimp only at e
  pointwise at e
  exact word_range _ e

/-- No first length is zero. -/
theorem lenA (h : (fn (F := Ideal) x0 x1 x2 x3 x4 x5 x6 x7 x8).2.1 = fun _ => 1#1) (i : S16384.Idx) : x1 i ≠ 0 := by
  have e : (fn (F := Ideal) x0 x1 x2 x3 x4 x5 x6 x7 x8).2.1 (ix1 (i 0)) = 1#1 := congrFun h _
  unfold fn fn_part1 at e
  dsimp only at e
  pointwise at e
  exact of_bit _ e

/-- Every token of the second sequence is in range. -/
theorem tokensB (h : (fn (F := Ideal) x0 x1 x2 x3 x4 x5 x6 x7 x8).2.2.1 = fun _ => 1#1) (i : S16384x200.Idx) : (x2 i).toNat < 20 := by
  have e : (fn (F := Ideal) x0 x1 x2 x3 x4 x5 x6 x7 x8).2.2.1 (ix2 (i 0) (i 1)) = 1#1 := congrFun h _
  unfold fn fn_part1 at e
  dsimp only at e
  pointwise at e
  exact word_range _ e

/-- No second length is zero. -/
theorem lenB (h : (fn (F := Ideal) x0 x1 x2 x3 x4 x5 x6 x7 x8).2.2.2.1 = fun _ => 1#1) (i : S16384.Idx) : x3 i ≠ 0 := by
  have e : (fn (F := Ideal) x0 x1 x2 x3 x4 x5 x6 x7 x8).2.2.2.1 (ix1 (i 0)) = 1#1 := congrFun h _
  unfold fn fn_part1 at e
  dsimp only at e
  pointwise at e
  exact of_bit _ e

/-- Every entry of the table is a real. -/
theorem table (h : (fn (F := Ideal) x0 x1 x2 x3 x4 x5 x6 x7 x8).2.2.2.2.1 = fun _ => 1#1) (i : S20x64.Idx) : ∃ r : ℝ, x4 i = (r : EReal) := by
  have e : (fn (F := Ideal) x0 x1 x2 x3 x4 x5 x6 x7 x8).2.2.2.2.1 (ix2 (i 0) (i 1)) = 1#1 := congrFun h _
  unfold fn fn_part1 at e
  dsimp only at e
  pointwise at e
  rw [inf_top] at e
  exact real_of_abs _ (of_bit _ e)

/-- Every hidden weight is a real. -/
theorem weights (h : (fn (F := Ideal) x0 x1 x2 x3 x4 x5 x6 x7 x8).2.2.2.2.2 = fun _ => 1#1) (i : S128x128.Idx) : ∃ r : ℝ, x5 i = (r : EReal) := by
  have e : (fn (F := Ideal) x0 x1 x2 x3 x4 x5 x6 x7 x8).2.2.2.2.2 (ix2 (i 0) (i 1)) = 1#1 := congrFun h _
  unfold fn fn_part1 at e
  dsimp only at e
  pointwise at e
  rw [inf_top] at e
  exact real_of_abs _ (of_bit _ e)

end Cert.Given

end
-- ==== Proof.lean ====
/-
  The claims, assembled. The kernel's result array is the counted form of the two sequences under the network's head
  (`Final.final`), the reference's is the plain mean under the same head (`RefValue.result_apply`); under the
  precondition the two forms are one number (`Pool.counted_eq_mean`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Final
public import proofs.«01_k».proof.Proof.RefValue
public import proofs.«01_k».proof.Proof.Given
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The facts the kernel's program text states. -/
local instance : Cert.Kernel.Facts := Cert.Kernel.Gen.facts
/-- The facts the idealized kernel's program text states. -/
local instance : Cert.KernelIdeal.Facts := Cert.KernelIdeal.Gen.facts
/-- The facts the reference's program text states. -/
local instance : Cert.ReferenceIdeal.Facts := Cert.ReferenceIdeal.Gen.facts
/-- The facts the precondition's text states. -/
local instance : Cert.Pre_well_posed.Facts := Cert.Pre_well_posed.Gen.facts

/-- The kernel terminates without a fault and leaves its arguments as they were and every counter at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same under the precondition. -/
theorem frame_ideal_pre : Cert.quiescent_KernelIdeal_pre_well_posed := fun m ρ _ => Cert.KernelIdeal.Gen.frame m ρ

/-- The same of the reference. -/
theorem frame_reference : Cert.quiescent_ReferenceIdeal := by
  intro m g _
  hlo_run
  · exact fun _ => ⟨trivial, trivial, trivial, trivial, trivial, trivial, trivial, trivial, trivial⟩
  · refine sem_eq_zero_of_no_sems ?_ _
    decide

/-- The same of the reference under the precondition. -/
theorem frame_reference_pre : Cert.quiescent_ReferenceIdeal_pre_well_posed :=
  fun m g _ => frame_reference m g trivial

/-- THE RESULTS ARE EQUAL: from arguments that agree and meet the precondition, what the reference returns is what the
    kernel's result array holds at the end. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (p0 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1))
    (p1 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1))
    (p2 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1))
    (p3 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1))
    (p4 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1))
    (p5 : (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)) :
    Cert.ReferenceIdeal.Value.res_main_v22 m' c = (Cert.KernelIdeal.Gen.dats m 0 c).arrAt 9 Cert.KernelIdeal.cfg0.N := by
  have h0 := Given.tokensA _ _ _ _ _ _ _ _ _ p0
  have h1 := Given.lenA _ _ _ _ _ _ _ _ _ p1
  have h2 := Given.tokensB _ _ _ _ _ _ _ _ _ p2
  have h3 := Given.lenB _ _ _ _ _ _ _ _ _ p3
  choose e he using Given.table _ _ _ _ _ _ _ _ _ p4
  choose w hw using Given.weights _ _ _ _ _ _ _ _ _ p5
  rw [Cert.KernelIdeal.Final.final m c h0 h2, Cert.ReferenceIdeal.Read.val_main_v22_eq, a0, a1, a2, a3, a4, a5, a6, a7, a8]
  funext i
  rw [eq_ix1 i]
  refine (Cert.ReferenceIdeal.RefValue.result_apply _ _ _ _ _ _ _ _ _ h0 h2 (i 0)).trans ?_
  unfold Cert.KernelIdeal.Final.entry
  simp only [he, hw]
  refine congrArg₂ (fun p q => Pool.score p q _ _ _) (funext fun h => ?_) (funext fun h => ?_)
  · exact (Pool.counted_eq_mean (fun v d => e (ix2 v d)) (fun d => w (ix2 h ⟨d.val, by omega⟩)) _ _ (h1 _)).symm
  · exact (Pool.counted_eq_mean (fun v d => e (ix2 v d)) (fun d => w (ix2 h ⟨64 + d.val, by omega⟩)) _ _ (h3 _)).symm

/-- The kernel and the reference end with equal results over the extended reals, under the precondition. -/
theorem algebraic : Cert.algebraic_KernelIdeal_ReferenceIdeal_pre_well_posed := by
  pair_intro
  · run_from Cert.KernelIdeal.Gen.run_main m g
  · run_from Cert.ReferenceIdeal.Value.run m' g'
    obtain ⟨a0, a1, a2, a3, a4, a5, a6, a7, a8⟩ := hagree c
    obtain ⟨p0, p1, p2, p3, p4, p5⟩ := hpre c
    exact result_eq m m' c a0 a1 a2 a3 a4 a5 a6 a7 a8 p0 p1 p2 p3 p4 p5

/-- THE CLAIM: the programs' frames, the idealization, and the equation. -/
theorem claim : Cert.Claim := ⟨Cert.Kernel.Gen.facts, Cert.KernelIdeal.Gen.facts, Cert.ReferenceIdeal.Gen.facts, Cert.Pre_well_posed.Gen.facts,
  frame_kernel, frame_ideal, frame_ideal_pre, frame_reference, frame_reference_pre, trivial, algebraic⟩

end Cert.Proof

end
